-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x256x300x11 : Shape := ⟨4, ![64, 256, 300, 11]⟩
abbrev S11x18 : Shape := ⟨2, ![11, 18]⟩
abbrev S16384x300x11 : Shape := ⟨3, ![16384, 300, 11]⟩
abbrev S16384x300x18 : Shape := ⟨3, ![16384, 300, 18]⟩
abbrev S32x300x11 : Shape := ⟨3, ![32, 300, 11]⟩
abbrev S32x300x18 : Shape := ⟨3, ![32, 300, 18]⟩
abbrev S1x300x11 : Shape := ⟨3, ![1, 300, 11]⟩
abbrev S300x11 : Shape := ⟨2, ![300, 11]⟩
abbrev S300x18 : Shape := ⟨2, ![300, 18]⟩
abbrev S1x300x18 : Shape := ⟨3, ![1, 300, 18]⟩
abbrev S64x256x300x18 : Shape := ⟨4, ![64, 256, 300, 18]⟩

abbrev nBuf : Space → Nat
  | .hbm => 5
  | .vmem => 5
  | .smem => 0
  | _ => 0

abbrev bufTy : (tb : Table) → Fin (tcTables nBuf tb) → BufTy
  | .hbm, ⟨0, _⟩ => ⟨S64x256x300x11, .f32⟩
  | .hbm, ⟨1, _⟩ => ⟨S11x18, .bf16⟩
  | .hbm, ⟨2, _⟩ => ⟨S16384x300x11, .f32⟩
  | .hbm, ⟨3, _⟩ => ⟨S16384x300x18, .f32⟩
  | .hbm, ⟨4, _⟩ => ⟨S64x256x300x18, .f32⟩
  | .local _ .vmem, ⟨0, _⟩ => ⟨S11x18, .bf16⟩
  | .local _ .vmem, ⟨1, _⟩ => ⟨S32x300x11, .f32⟩
  | .local _ .vmem, ⟨2, _⟩ => ⟨S32x300x11, .f32⟩
  | .local _ .vmem, ⟨3, _⟩ => ⟨S32x300x18, .f32⟩
  | .local _ .vmem, ⟨4, _⟩ => ⟨S32x300x18, .f32⟩
  | _, _ => ⟨S64x256x300x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S11x18 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x300x11 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x300x18 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S64x256x300x11 : Shape := ⟨4, ![64, 256, 300, 11]⟩
abbrev S18 : Shape := ⟨1, ![18]⟩
abbrev S_ : Shape := ⟨0, ![]⟩
abbrev S18x1 : Shape := ⟨2, ![18, 1]⟩
abbrev S1 : Shape := ⟨1, ![1]⟩
abbrev S1x1 : Shape := ⟨2, ![1, 1]⟩
abbrev S64x256x300x18 : Shape := ⟨4, ![64, 256, 300, 18]⟩

abbrev nBuf : Space → Nat
  | .hbm => 25
  | .vmem => 0
  | .smem => 0
  | _ => 0

abbrev bufTy : (tb : Table) → Fin (tcTables nBuf tb) → BufTy
  | .hbm, ⟨0, _⟩ => ⟨S64x256x300x11, .f32⟩
  | .hbm, ⟨1, _⟩ => ⟨S18, .i32⟩
  | .hbm, ⟨2, _⟩ => ⟨S_, .i32⟩
  | .hbm, ⟨3, _⟩ => ⟨S18, .i32⟩
  | .hbm, ⟨4, _⟩ => ⟨S18, .i1⟩
  | .hbm, ⟨5, _⟩ => ⟨S_, .i32⟩
  | .hbm, ⟨6, _⟩ => ⟨S18, .i32⟩
  | .hbm, ⟨7, _⟩ => ⟨S18, .i32⟩
  | .hbm, ⟨8, _⟩ => ⟨S18, .i32⟩
  | .hbm, ⟨9, _⟩ => ⟨S18x1, .i32⟩
  | .hbm, ⟨10, _⟩ => ⟨S1, .i32⟩
  | .hbm, ⟨11, _⟩ => ⟨S_, .i32⟩
  | .hbm, ⟨12, _⟩ => ⟨S18x1, .i32⟩
  | .hbm, ⟨13, _⟩ => ⟨S18x1, .i1⟩
  | .hbm, ⟨14, _⟩ => ⟨S1x1, .i32⟩
  | .hbm, ⟨15, _⟩ => ⟨S18x1, .i32⟩
  | .hbm, ⟨16, _⟩ => ⟨S18x1, .i1⟩
  | .hbm, ⟨17, _⟩ => ⟨S18x1, .i1⟩
  | .hbm, ⟨18, _⟩ => ⟨S_, .i1⟩
  | .hbm, ⟨19, _⟩ => ⟨S18, .i1⟩
  | .hbm, ⟨20, _⟩ => ⟨S64x256x300x18, .f32⟩
  | .hbm, ⟨21, _⟩ => ⟨S64x256x300x18, .i1⟩
  | .hbm, ⟨22, _⟩ => ⟨S_, .f32⟩
  | .hbm, ⟨23, _⟩ => ⟨S64x256x300x18, .f32⟩
  | .hbm, ⟨24, _⟩ => ⟨S64x256x300x18, .f32⟩
  | _, _ => ⟨S64x256x300x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Block.lean ====
/-
  One block of the kernel: thirty-two images, each a 300 x 11 matrix multiplied by the 11 x 18 selection matrix.

  Every store of the kernel body writes the product of one image with the selection matrix, so the whole output block
  holds at (image, frame, joint) the sum over the eleven parts of the image's entry times the matrix's entry.
-/
module

public import proofs.«01_k».proof.Proof.Gen.KernelIdeal.Frame
public import Idealize.ShloMosaic.Lib.MatmulPlain
public import Idealize.ShloMosaic.Lib.ValueIdx
public import Idealize.ShloMosaic.Lib.Pipeline.Value
public import Idealize.ShloMosaic.Lib.Pipeline.ValueKit

@[expose] public section

set_option maxRecDepth 16384

noncomputable section

namespace Cert.KernelIdeal.Block

open Idealize.ShloMosaic hiding ix0 ix1 ix2 ix3 ix4 ix5 eq_ix3
open Idealize.ShloMosaic.ValueIdx
open Cert.KernelIdeal Cert.KernelIdeal.Gen
open scoped BigOperators

variable {F : FTy → Type} [FloatOps F]

/-- What one store of the body writes: one image, its unit axis dropped and its entries rounded to bfloat16, times the
    selection matrix over a zero accumulator, the unit axis put back. -/
def imageProd (sel : Vec F S11x18 .bf16) (x : Vec F S1x300x11 .f32) : FVec F S1x300x18 .f32 :=
  shapeCast S1x300x18
    (matmul dot_S300x11_S11x18_S300x18_1_0_0_1_n_n none
      (truncf .bf16 (shapeCast S300x11 x shapeCasts_S1x300x11_S300x11) bitsLt_bf16_f32) sel
      (constant S300x18 .f32 0x00000000#32))
    shapeCasts_S300x18_S1x300x18

/-- The sum over the eleven parts of an image's entry times the selection matrix's entry. -/
def partSum (sel : S11x18.Idx → EReal) (x : Fin 11 → EReal) (j : Fin 18) : EReal :=
  ∑ k : Fin 11, x k * sel (ix2 k j)

/-- Over the extended reals one image's product holds at (frame, joint) the sum over the parts. -/
theorem imageProd_apply (sel : Vec Ideal S11x18 .bf16) (x : Vec Ideal S1x300x11 .f32) (u : Fin 1) (r : Fin 300) (j : Fin 18) :
    imageProd sel x (ix3 u r j) = partSum sel (fun k => x (ix3 (0 : Fin 1) r k)) j := by
  unfold imageProd partSum
  rw [shapeCast_apply _ _ (ix3 u r j) (ix2 r j) (by
    rw [Shape.rowMajor_val_two, Shape.rowMajor_val_three]
    have := u.isLt
    show r.val * 18 + j.val = (u.val * 300 + r.val) * 18 + j.val
    omega)]
  refine (Ideal.matmul_plain_apply none _ _ _ r j).trans ?_
  have h0 : (constant S300x18 .f32 0x00000000#32 : FVec Ideal S300x18 .f32) (ix2 r j) = (0 : EReal) := by
    show Ideal.ofBits .f32 0x00000000#32 = 0
    simp [Ideal.ofBits, Ideal.ieee]
  rw [h0, zero_add]
  refine Finset.sum_congr rfl fun k _ => congrArg (· * sel (ix2 k j)) ?_
  exact shapeCast_apply _ _ (ix2 r k) (ix3 (0 : Fin 1) r k) (by
    rw [Shape.rowMajor_val_two, Shape.rowMajor_val_three]
    show (0 * 300 + r.val) * 11 + k.val = r.val * 11 + k.val
    omega)

/-- The output block as one function of the selection matrix and the input block. -/
def blockFn (sel : Vec Ideal S11x18 .bf16) (x : Vec Ideal S32x300x11 .f32) : Vec Ideal S32x300x18 .f32 :=
  fun i => partSum sel (fun k => x (ix3 (i 0) (i 1) k)) (i 2)

/-- Image `b`'s product is row `b` of the output block's function. -/
theorem image_piece (sel : Vec Ideal S11x18 .bf16) (x : Vec Ideal S32x300x11 .f32) (b : ℕ)
    (hin : ∀ a, (![b, 0, 0] : Fin 3 → ℕ) a + S1x300x11.size a ≤ S32x300x11.size a)
    (hout : ∀ a, (![b, 0, 0] : Fin 3 → ℕ) a + S1x300x18.size a ≤ S32x300x18.size a) (y : S1x300x18.Idx) :
    imageProd (View.ld sel r0_0) (View.ld x (Rect.unit (s := S32x300x11) ![b, 0, 0] S1x300x11.size hin)) y
      = blockFn sel x ((Rect.unit (s := S32x300x18) ![b, 0, 0] S1x300x18.size hout).emb y) := by
  obtain ⟨u, r, j, rfl⟩ : ∃ u r j, y = ix3 u r j := ⟨_, _, _, eq_ix3 y⟩
  rw [imageProd_apply]
  have hsel : View.ld sel r0_0 = sel := View.ld_unit_zero (by funext a; match a with | ⟨0, _⟩ => rfl | ⟨1, _⟩ => rfl) _ _
  have hu := u.isLt
  rw [hsel]
  have hrow : ∀ k : Fin 11, View.ld x (Rect.unit (s := S32x300x11) ![b, 0, 0] S1x300x11.size hin) (ix3 (0 : Fin 1) r k)
      = x (ix3 ((Rect.unit (s := S32x300x18) ![b, 0, 0] S1x300x18.size hout).emb (ix3 u r j) 0)
          ((Rect.unit (s := S32x300x18) ![b, 0, 0] S1x300x18.size hout).emb (ix3 u r j) 1) k) := fun k => by
    refine congrArg x (funext fun a => Fin.ext ?_)
    match a with
    | ⟨0, _⟩ => show b + 1 * 0 = b + 1 * u.val; omega
    | ⟨1, _⟩ => rfl
    | ⟨2, _⟩ => show 0 + 1 * k.val = k.val; omega
  have hj : j = (Rect.unit (s := S32x300x18) ![b, 0, 0] S1x300x18.size hout).emb (ix3 u r j) 2 :=
    Fin.ext (by show j.val = 0 + 1 * j.val; omega)
  show partSum sel _ j = partSum sel _ _
  rw [← hj]
  exact congrArg (fun f => partSum sel f j) (funext hrow)

/-- Every store's payload is one image's product, whichever way the body was cut. -/
theorem pieces (sel : Vec Ideal S11x18 .bf16) (x : Vec Ideal S32x300x11 .f32) (i : S32x300x18.Idx) :
    out0_2 sel x i = blockFn sel x i := by
  unfold out0_2
  refine View.canon_apply_of_pieces (blockFn sel x) _ ?_ i (View.cover_of_tiled_head _ _ _ rfl i)
  simp only [List.forall_mem_cons, List.not_mem_nil, false_implies, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_⟩
  all_goals exact fun y => image_piece sel x _ _ _ y

end Cert.KernelIdeal.Block

end
-- ==== Proof.Parts.lean ====
/-
  The mathematics of the kernel: eighteen joints, each of which reads one of eleven body parts.

  The table of parts, the array that the table makes of the input, and the one fact about sums that a selection by
  matrix product needs: a sum against a row that is one at one place and zero elsewhere is the entry at that place.
-/
module

public import Idealize.ShloMosaic.Lib.ValueIdx

@[expose] public section

noncomputable section

namespace Cert.Parts

open Idealize.ShloMosaic
open Idealize.ShloMosaic.ValueIdx
open scoped BigOperators

/-- The part that each joint reads. -/
def part : Fin 18 → Fin 11 := ![4, 4, 8, 7, 7, 10, 9, 9, 0, 1, 1, 2, 3, 3, 5, 6, 5, 6]

/-- The joints of every frame of every image: joint `j` holds the input's part `part j`. -/
def joints {α : Type} (x : (⟨4, ![64, 256, 300, 11]⟩ : Shape).Idx → α) : (⟨4, ![64, 256, 300, 18]⟩ : Shape).Idx → α :=
  fun i => x (ix4 (i 0) (i 1) (i 2) (part (i 3)))

/-- A sum of extended reals, each times one at the place `p` and times zero elsewhere, is the entry at `p`. It holds of
    infinite entries too, since zero times any extended real is zero. -/
theorem sum_one_hot (x e : Fin 11 → EReal) (p : Fin 11) (he : ∀ k, e k = if k = p then 1 else 0) :
    ∑ k : Fin 11, x k * e k = x p := by
  rw [Finset.sum_eq_single p (fun k _ hk => by rw [he, if_neg hk, mul_zero]) (fun h => absurd (Finset.mem_univ p) h),
    he, if_pos rfl, mul_one]

end Cert.Parts

end
-- ==== Proof.Selection.lean ====
/-
  The kernel's selection matrix: the 11 x 18 table of bfloat16 words that the program holds as a constant.

  Its entry at (part, joint) is one where the joint reads the part and zero elsewhere, so the sum over the parts that
  the kernel computes for a joint is the entry of the part which the joint reads.
-/
module

public import proofs.«01_k».proof.Proof.Block
public import proofs.«01_k».proof.Proof.Parts
public import Idealize.ShloMosaic.Lib.Decide

@[expose] public section

set_option maxRecDepth 16384

noncomputable section

namespace Cert.KernelIdeal.Selection

open Idealize.ShloMosaic hiding ix0 ix1 ix2 ix3 ix4 ix5
open Idealize.ShloMosaic.ValueIdx
open Cert.KernelIdeal Cert.KernelIdeal.Block Cert.Parts

/-- The selection matrix as the program holds it. -/
def sel : Vec Ideal S11x18 .bf16 := fun i => FloatOps.ofBits (F := Ideal) .bf16 (lit0 (S11x18.rowMajor i))

/-- The word at (part, joint): that of one where the joint reads the part, that of zero elsewhere. -/
theorem word_eq : ∀ (k : Fin 11) (j : Fin 18),
    lit0 ⟨k.val * 18 + j.val, by have := k.isLt; have := j.isLt; omega⟩ = if k = part j then 0x3F80#16 else 0x0000#16 := by
  decide +kernel

/-- The matrix's entry: one where the joint reads the part, zero elsewhere. -/
theorem sel_apply (k : Fin 11) (j : Fin 18) : sel (ix2 k j) = if k = part j then (1 : EReal) else 0 := by
  have e : S11x18.rowMajor (ix2 k j) = (⟨k.val * 18 + j.val, by have := k.isLt; have := j.isLt; omega⟩ : Fin 198) :=
    Fin.ext (Shape.rowMajor_val_two (d := ![11, 18]) (ix2 k j))
  show Ideal.ofBits .bf16 (lit0 (S11x18.rowMajor (ix2 k j))) = _
  rw [e, word_eq]
  split
  · simp [Ideal.ofBits, Ideal.ieee]; norm_num; rw [← EReal.coe_mul]; norm_num
  · simp [Ideal.ofBits, Ideal.ieee]

/-- The sum over the parts against the selection matrix is the entry of the part that the joint reads. -/
theorem partSum_sel (x : Fin 11 → EReal) (j : Fin 18) : partSum sel x j = x (part j) :=
  sum_one_hot x (fun k => sel (ix2 k j)) (part j) fun k => sel_apply k j

end Cert.KernelIdeal.Selection

end
-- ==== Proof.KernelValue.lean ====
/-
  What the kernel leaves in its result array, over the extended reals.

  The host lays the input out as 16384 images of 300 x 11 and the result as 16384 images of 300 x 18, in blocks of
  thirty-two images. Every block is written from the matching block of the input, so every image's joint holds the part
  it reads; the two reshapes around the launch keep the row-major order, so the result is the joints of the input.
-/
module

public import proofs.«01_k».proof.Proof.Selection

@[expose] public section

set_option maxRecDepth 16384

noncomputable section

namespace Cert.KernelIdeal.Joints

open Idealize.ShloMosaic hiding ix0 ix1 ix2 ix3 ix4 ix5 eq_ix3 eq_ix4
open Idealize.ShloMosaic.ValueIdx
open Idealize.SL.Sem
open Cert.KernelIdeal Cert.KernelIdeal.Gen Cert.KernelIdeal.Block Cert.KernelIdeal.Selection Cert.Parts

variable (m : (ℓ : Loc nD τ sig) → Buf (Elt Ideal) ℓ) (ρ : Dev nD → PrngReg)

/-- The region finds the selection matrix in the constant's buffer. -/
theorem V_main_cst (c : Dev nD) : V m c main_cst = sel := by
  show StableHlo.after _ _ _ = _
  simp only [hostOps0, List.flatten_cons, List.flatten_nil, List.append_nil]
  after_results <;> rfl

/-- The region finds the input, its first two axes made one, in the reshape's buffer. -/
theorem V_main_v0 (c : Dev nD) :
    V m c main_v0 = shapeCast S16384x300x11 (m ((c.tc : Thread nD τ).loc main_arg0)) shapeCasts_S64x256x300x11_S16384x300x11 := by
  show StableHlo.after _ _ _ = _
  simp only [hostOps0, List.flatten_cons, List.flatten_nil, List.append_nil]
  after_results <;> rfl

/-- The selection matrix's window stays at the array's one block. -/
theorem index_sel : ∀ t : Fin cfg0.N, win0_0.index t = ![0, 0] := (by decide +kernel : ∀ t : Fin grid0.N, _)
/-- The input's window is at the point's own block of images. -/
theorem index_in : ∀ t : Fin cfg0.N, win0_1.index t = ![t.val, 0, 0] := (by decide +kernel : ∀ t : Fin grid0.N, _)
/-- The result's window is at the point's own block of images. -/
theorem index_out : ∀ t : Fin cfg0.N, win0_2.index t = ![t.val, 0, 0] := (by decide +kernel : ∀ t : Fin grid0.N, _)

/-- The array the launch leaves: every image's joint at the part it reads. -/
def images (x : S16384x300x11.Idx → EReal) : S16384x300x18.Idx → EReal :=
  fun i => x (ix3 (i 0) (i 1) (part (i 2)))

/-- The image that place `b` of block `t` is. -/
def image (t : Fin cfg0.N) (b : Fin 32) : Fin 16384 :=
  ⟨t.val * 32 + b.val, by have h : t.val < 512 := N_0 ▸ t.isLt; have := b.isLt; omega⟩

/-- Place (b, r, k) of the input's block at point `t` is frame `r`, part `k` of the block's image `b`. -/
theorem emb_in (t : Fin cfg0.N) (b : Fin 32) (r : Fin 300) (k : Fin 11) :
    ((cfg0.win 1).blk t).view.emb (ix3 b r k) = (ix3 (image t b) r k : S16384x300x11.Idx) := by
  funext a
  apply Fin.ext
  match a with
  | ⟨0, _⟩ => blk_simp [index_in]; rfl
  | ⟨1, _⟩ => blk_simp [index_in]
  | ⟨2, _⟩ => blk_simp [index_in]

/-- Place (b, r, j) of the result's block at point `t` is frame `r`, joint `j` of the block's image `b`. -/
theorem emb_out (t : Fin cfg0.N) (b : Fin 32) (r : Fin 300) (j : Fin 18) :
    ((cfg0.win 2).blk t).view.emb (ix3 b r j) = (ix3 (image t b) r j : S16384x300x18.Idx) := by
  funext a
  apply Fin.ext
  match a with
  | ⟨0, _⟩ => blk_simp [index_out]; rfl
  | ⟨1, _⟩ => blk_simp [index_out]
  | ⟨2, _⟩ => blk_simp [index_out]

/-- The launch leaves the joints of the images it finds. -/
theorem final_images (c : Dev nD) : (dats m 0 c).arrAt 2 cfg0.N = images (V m c main_v0) := by
  refine (dats m 0 c).arrAt_eq_of_covers 2 _ (by decide +kernel) fun t hf y => ?_
  blk_simp
  rw [after0_2]
  obtain ⟨b, r, j, rfl⟩ : ∃ (b : Fin 32) (r : Fin 300) (j : Fin 18), y = ix3 b r j := ⟨_, _, _, eq_ix3 y⟩
  have hsel : iblk m c 0 t = sel := by
    funext i
    show V m c main_cst (((cfg0.win 0).blk t).view.emb i) = sel i
    rw [V_main_cst]
    refine congrArg sel ?_
    blk_ext [index_sel]
  refine (pieces _ _ _).trans ?_
  rw [hsel]
  refine (partSum_sel _ _).trans ?_
  show V m c main_v0 (((cfg0.win 1).blk t).view.emb (ix3 b r (part j)))
    = images (V m c main_v0) (((cfg0.win 2).blk t).view.emb (ix3 b r j))
  rw [emb_in, emb_out]
  rfl

/-- Reshaped back, the joints of the images are the joints of the input: the images are the input's pairs of leading
    coordinates in row-major order, on both sides. -/
theorem reshape_images (x : S64x256x300x11.Idx → EReal) :
    shapeCast S64x256x300x18 (images (shapeCast S16384x300x11 x shapeCasts_S64x256x300x11_S16384x300x11))
      shapeCasts_S16384x300x18_S64x256x300x18 = joints x := by
  funext i
  obtain ⟨a, b, r, j, rfl⟩ : ∃ (a : Fin 64) (b : Fin 256) (r : Fin 300) (j : Fin 18), i = ix4 a b r j :=
    ⟨_, _, _, _, eq_ix4 i⟩
  have ha := a.isLt
  have hb := b.isLt
  rw [shapeCast_apply _ _ (ix4 a b r j) (ix3 (⟨a.val * 256 + b.val, by omega⟩ : Fin 16384) r j) (by
    rw [Shape.rowMajor_val_three, Shape.rowMajor_val_four]; rfl)]
  exact shapeCast_apply _ _ (ix3 (⟨a.val * 256 + b.val, by omega⟩ : Fin 16384) r (part j)) (ix4 a b r (part j)) (by
    rw [Shape.rowMajor_val_three, Shape.rowMajor_val_four]; rfl)

/-- The result's buffer after the reshape that follows the launch: the joints of the input. -/
theorem W_main_v2 (c : Dev nD) :
    Pipeline.afterTail₀ cfgs (dats m) 0 (V0 m) [hostOps1] c main_v2 = joints (m ((c.tc : Thread nD τ).loc main_arg0)) := by
  have h := Pipeline.withArrays_arr spec0 launch0.win.arr_inj c (V0 m c) (fun w => (dats m 0 c).arrAt w cfg0.N) 2
  have e : Pipeline.afterTail₀ cfgs (dats m) 0 (V0 m) [hostOps1] c main_v2
      = shapeCast S64x256x300x18 (Pipeline.withArrays spec0 c (V0 m c) (fun w => (dats m 0 c).arrAt w cfg0.N)
          (Proc.devRef .tc (Pipeline.arrRef spec0 2))) shapeCasts_S16384x300x18_S64x256x300x18 := by
    unfold Pipeline.afterTail₀
    simp only [hostOps1, List.flatten_cons, List.flatten_nil, List.append_nil]
    after_results <;> rfl
  rw [e, h, final_images, V_main_v0]
  exact reshape_images _

/-- The kernel's run: the result holds the joints of the input, and the input is unchanged. -/
theorem run : θ_run defs (onTc (τ := τ) (main (F := Ideal))) ⟨m, fun _ => 0, ρ⟩ fun r => ∀ c : Dev nD,
    r.2.mem ((c.tc : Thread nD τ).loc main_v2) = joints (m ((c.tc : Thread nD τ).loc main_arg0))
      ∧ r.2.mem ((c.tc : Thread nD τ).loc main_arg0) = m ((c.tc : Thread nD τ).loc main_arg0) :=
  (θ_run defs _ _).mono (fun _ h c =>
    ⟨((h c).2 main_v2 (Pipeline.mem_restRefs_of main_v2 (by decide) (by decide))).trans (W_main_v2 m c),
      ((h c).2 main_arg0 (Pipeline.mem_restRefs_of main_arg0 (by decide) (by decide))).trans (W_main_arg0 m (dats m) c)⟩)
    (run_main m ρ)

end Cert.KernelIdeal.Joints

end
-- ==== Proof.RefValue.lean ====
/-
  What the reference computes, over the extended reals.

  The reference takes along the last axis at a table of eighteen positions. A position below zero would count from the
  end and a position out of range would give a filler value; the table's positions are all in range, so neither happens
  and the result at a joint is the input at the part that the table names.
-/
module

public import proofs.«01_k».proof.Proof.Gen.ReferenceIdeal.Run
public import proofs.«01_k».proof.Proof.Parts
public import Idealize.ShloMosaic.Lib.Decide

@[expose] public section

set_option maxRecDepth 16384

noncomputable section

namespace Cert.ReferenceIdeal.Joints

open Idealize.ShloMosaic
open Idealize.ShloMosaic.ValueIdx
open Idealize.SL.Sem
open Cert.ReferenceIdeal Cert.ReferenceIdeal.Gen Cert.Parts

/-- The table of positions as the program holds it. -/
def table : IVec S18 32 := fun i => lit0 (S18.rowMajor i)

/-- The table with every position below zero counted from the end, as a column. -/
def column : IVec S18x1 32 :=
  broadcastInDim S18x1 ![0] bcast_S18_S18x1_0
    (select (cmpi .slt table (broadcastInDim S18 ![] bcast_S_S18 (constantI S_ 32 0#32)))
      (addi table (broadcastInDim S18 ![] bcast_S_S18 (constantI S_ 32 11#32))) table)

/-- The mask of the positions in range. -/
def inRange : IVec S18 1 :=
  Host.reduce IntOp.andi
    (andi (cmpi .sge column (broadcastInDim S18x1 ![] bcast_S_S18x1 (constantI S_ 32 0#32)))
      (cmpi .sle column (broadcastInDim S18x1 ![0, 1] bcast_S1x1_S18x1_0_1 (broadcastInDim S1x1 ![1] bcast_S1_S1x1_1 (constantI S1 32 10#32)))))
    (constantI S_ 1 1#1) reducesTo_S18x1_S18_d1 h_S_

/-- Position `j` of the column is the part that joint `j` reads. -/
theorem column_apply : ∀ j : Fin 18, column (ix2 j (0 : Fin 1)) = BitVec.ofNat 32 (part j).val := by
  decide +kernel

/-- Every position is in range. -/
theorem inRange_apply : ∀ j : Fin 18, inRange (ix1 j) = 1#1 := by
  decide +kernel

/-- A part's word, read signed and clamped to the parts, is the part. -/
theorem clamp_part : ∀ p : Fin 11, min (BitVec.ofNat 32 p.val).toInt.toNat 10 = p.val := by
  decide

/-- The gather along the last axis at (a, b, r, j) is the input at (a, b, r, p), for `p` the column's position at `j`. -/
theorem gather_apply {α : Type} (x : S64x256x300x11.Idx → α) (a : Fin 64) (b : Fin 256) (r : Fin 300) (j : Fin 18) :
    Host.gather gather_S64x256x300x11_S18x1_S64x256x300x18_012_3_n_n_3_1_642563001 x column (ix4 a b r j)
      = x (ix4 a b r (part j)) := by
  refine congrArg x (funext fun d => Fin.ext ?_)
  match d with
  | ⟨0, _⟩ => show 0 + 0 + a.val = a.val; omega
  | ⟨1, _⟩ => show 0 + 0 + b.val = b.val; omega
  | ⟨2, _⟩ => show 0 + 0 + r.val = r.val; omega
  | ⟨3, _⟩ =>
    have e : column (ix2 j (0 : Fin 1)) = BitVec.ofNat 32 (part j).val := column_apply j
    show min (column _).toInt.toNat 10 + 0 + 0 = (part j).val
    refine Eq.trans (congrArg (fun q => min (column q).toInt.toNat 10 + 0 + 0) (?_ : _ = ix2 j (0 : Fin 1))) ?_
    · funext d
      match d with
      | ⟨0, _⟩ => rfl
      | ⟨1, _⟩ => rfl
    · show min (column (ix2 j (0 : Fin 1))).toInt.toNat 10 = (part j).val
      rw [e]
      exact clamp_part (part j)

variable (m : (ℓ : Loc nD τ sig) → Buf (Elt Ideal) ℓ) (ρ : Dev nD → PrngReg)

/-- The reference's composed result is the joints of the input. -/
theorem result_eq (x : FVec Ideal S64x256x300x11 .f32) :
    select (broadcastInDim S64x256x300x18 ![3] bcast_S18_S64x256x300x18_3 inRange)
      (Host.gather gather_S64x256x300x11_S18x1_S64x256x300x18_012_3_n_n_3_1_642563001 x column)
      (broadcastInDim S64x256x300x18 ![] bcast_S_S64x256x300x18 (constant S_ .f32 0x7FC00000#32)) = joints x := by
  funext i
  obtain ⟨a, b, r, j, rfl⟩ : ∃ (a : Fin 64) (b : Fin 256) (r : Fin 300) (j : Fin 18), i = ix4 a b r j :=
    ⟨_, _, _, _, eq_ix4 i⟩
  have hm : broadcastInDim S64x256x300x18 ![3] bcast_S18_S64x256x300x18_3 inRange (ix4 a b r j) = 1#1 := by
    refine Eq.trans (congrArg inRange ?_) (inRange_apply j)
    funext d
    match d with
    | ⟨0, _⟩ => rfl
  rw [select_apply, hm, select_one]
  exact gather_apply x a b r j

/-- The reference's run: the result holds the joints of the input, and the input is unchanged. -/
theorem run : θ_run defs (onTc (τ := τ) (main (F := Ideal))) ⟨m, fun _ => 0, ρ⟩ fun r => ∀ c : Dev nD,
    r.2.mem ((c.tc : Thread nD τ).loc main_v0) = joints (m ((c.tc : Thread nD τ).loc main_arg0))
      ∧ r.2.mem ((c.tc : Thread nD τ).loc main_arg0) = m ((c.tc : Thread nD τ).loc main_arg0) :=
  (θ_run defs _ _).mono (fun _ h c => ⟨(h c).1.trans (result_eq _), (h c).2⟩) (Cert.ReferenceIdeal.Value.run m ρ)

end Cert.ReferenceIdeal.Joints

end
-- ==== Proof.lean ====
/-
  The proof of `Cert.Claim`: the kernel as printed and over the extended reals, and the reference, end with their
  arguments unchanged and their counters at zero; the kernel's two spellings agree; and over the extended reals the
  kernel and the reference leave the same array, the joints of the input (Proof/Parts.lean).
-/
module

public import proofs.«01_k».proof.Proof.KernelValue
public import proofs.«01_k».proof.Proof.RefValue
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.SL.Sem

/-- The kernel, bit for bit, ends with its argument unchanged and its counters at zero. -/
theorem frame_kernel : Cert.quiescent_Kernel := fun m ρ _ => Cert.Kernel.Gen.frame m ρ

/-- The kernel over the extended reals ends with its argument unchanged and its counters at zero. -/
theorem frame_kernelIdeal : Cert.quiescent_KernelIdeal := fun m ρ _ => Cert.KernelIdeal.Gen.frame m ρ

/-- The reference over the extended reals ends with its argument unchanged; it has no counters. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Joints.run m ρ)

/-- Over the extended reals the kernel and the reference, of the same input, both leave the joints of the input. -/
theorem same_joints : Cert.algebraic_KernelIdeal_ReferenceIdeal := fun m ρ m' ρ' _ hm =>
  ⟨fun c => Cert.Parts.joints (m ((c.tc : Thread Cert.KernelIdeal.nD Cert.KernelIdeal.τ).loc Cert.KernelIdeal.main_arg0)),
    Cert.KernelIdeal.Joints.run m ρ,
    (θ_run Cert.ReferenceIdeal.defs _ _).mono (fun _ h c => ⟨(h c).1.trans (congrArg Cert.Parts.joints (hm c)), (h c).2⟩)
      (Cert.ReferenceIdeal.Joints.run m' ρ')⟩

/-- The certificate's claim: the three frames, the two spellings of the kernel, and the equation of the results. -/
theorem claim : Cert.Claim :=
  ⟨Cert.Kernel.Gen.facts, Cert.KernelIdeal.Gen.facts, Cert.ReferenceIdeal.Gen.facts,
    frame_kernel, frame_kernelIdeal, frame_referenceIdeal, trivial, same_joints⟩

end Cert.Proof

end
